-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_or_one [hPre_zero_or_one : Cert.Pre_zero_or_one.Facts] (m : (ℓ : Loc Cert.KernelIdeal.nD Cert.KernelIdeal.τ Cert.KernelIdeal.sig) → Buf (Elt Ideal) ℓ) : Prop :=
  ∀ c : Dev Cert.KernelIdeal.nD,
    (Cert.Pre_zero_or_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_or_one [hPre_zero_or_one : Cert.Pre_zero_or_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_or_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_zero_or_one [hKernelIdeal : Cert.KernelIdeal.Facts] [hPre_zero_or_one : Cert.Pre_zero_or_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_or_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_zero_or_one [hReferenceIdeal : Cert.ReferenceIdeal.Facts] [hPre_zero_or_one : Cert.Pre_zero_or_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_or_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_zero_or_one [hKernelIdeal : Cert.KernelIdeal.Facts] [hReferenceIdeal : Cert.ReferenceIdeal.Facts] [hPre_zero_or_one : Cert.Pre_zero_or_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_or_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_zero_or_one : Cert.Pre_zero_or_one.Facts),
    quiescent_Kernel (hKernel := hKernel)
    ∧ quiescent_KernelIdeal (hKernelIdeal := hKernelIdeal)
    ∧ quiescent_KernelIdeal_pre_zero_or_one (hKernelIdeal := hKernelIdeal) (hPre_zero_or_one := hPre_zero_or_one)
    ∧ quiescent_ReferenceIdeal (hReferenceIdeal := hReferenceIdeal)
    ∧ quiescent_ReferenceIdeal_pre_zero_or_one (hReferenceIdeal := hReferenceIdeal) (hPre_zero_or_one := hPre_zero_or_one)
    ∧ preserves_Kernel_KernelIdeal
    ∧ algebraic_KernelIdeal_ReferenceIdeal_pre_zero_or_one (hKernelIdeal := hKernelIdeal) (hReferenceIdeal := hReferenceIdeal) (hPre_zero_or_one := hPre_zero_or_one)
-- ==== Pre_zero_or_one.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩

class Facts : Prop where
  bcast_S_S8x2048x2048 : S_.BroadcastsInDim S8x2048x2048 (![] : Fin 0 → Fin S8x2048x2048.rank)

variable [Facts]

def fn {F : FTy → Type} [FloatOps F] (main_arg0 : FVec F S8x2048x128 .f32) (main_arg1 : IVec S8x2048x2048 32) (main_arg2 : FVec F S128x128 .f32) (main_arg3 : FVec F S128x128 .f32) : IVec S8x2048x2048 1 :=
  let main_c : IVec S_ 32 := constantI S_ 32 0#32
  let main_v0 : IVec S8x2048x2048 32 := broadcastInDim S8x2048x2048 ![] bcast_S_S8x2048x2048 main_c
  let main_v1 : IVec S8x2048x2048 1 := cmpi .sge main_arg1 main_v0
  let main_c_0 : IVec S_ 32 := constantI S_ 32 2#32
  let main_v2 : IVec S8x2048x2048 32 := broadcastInDim S8x2048x2048 ![] bcast_S_S8x2048x2048 main_c_0
  let main_v3 : IVec S8x2048x2048 1 := cmpi .slt main_arg1 main_v2
  let main_v4 : IVec S8x2048x2048 1 := andi main_v1 main_v3
  main_v4
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S1x2048x2048 : Shape := ⟨3, ![1, 2048, 2048]⟩
abbrev S1x2048x128 : Shape := ⟨3, ![1, 2048, 128]⟩
abbrev S2048x128 : Shape := ⟨2, ![2048, 128]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .i32⟩
  | .hbm, ⟨2, _⟩ => ⟨S128x128, .f32⟩
  | .hbm, ⟨3, _⟩ => ⟨S128x128, .f32⟩
  | .hbm, ⟨4, _⟩ => ⟨S8x2048x128, .f32⟩
  | .local _ .vmem, ⟨0, _⟩ => ⟨S1x2048x2048, .i32⟩
  | .local _ .vmem, ⟨1, _⟩ => ⟨S1x2048x2048, .i32⟩
  | .local _ .vmem, ⟨2, _⟩ => ⟨S1x2048x128, .f32⟩
  | .local _ .vmem, ⟨3, _⟩ => ⟨S1x2048x128, .f32⟩
  | .local _ .vmem, ⟨4, _⟩ => ⟨S128x128, .f32⟩
  | .local _ .vmem, ⟨5, _⟩ => ⟨S128x128, .f32⟩
  | .local _ .vmem, ⟨6, _⟩ => ⟨S1x2048x128, .f32⟩
  | .local _ .vmem, ⟨7, _⟩ => ⟨S1x2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .i32⟩
  | .hbm, ⟨2, _⟩ => ⟨S128x128, .f32⟩
  | .hbm, ⟨3, _⟩ => ⟨S128x128, .f32⟩
  | .hbm, ⟨4, _⟩ => ⟨S_, .i32⟩
  | .hbm, ⟨5, _⟩ => ⟨S8x2048x2048, .i32⟩
  | .hbm, ⟨6, _⟩ => ⟨S8x2048x2048, .i1⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x128, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x128, .f32⟩
  | .hbm, ⟨16, _⟩ => ⟨S8x2048x128, .f32⟩
  | .hbm, ⟨17, _⟩ => ⟨S8x2048x128, .f32⟩
  | .hbm, ⟨18, _⟩ => ⟨S8x2048x128, .f32⟩
  | .hbm, ⟨19, _⟩ => ⟨S8x2048x128, .f32⟩
  | .hbm, ⟨20, _⟩ => ⟨S_, .f32⟩
  | .hbm, ⟨21, _⟩ => ⟨S_, .f32⟩
  | .hbm, ⟨22, _⟩ => ⟨S8x2048x128, .f32⟩
  | .hbm, ⟨23, _⟩ => ⟨S8x2048x128, .i1⟩
  | .hbm, ⟨24, _⟩ => ⟨S_, .f32⟩
  | .hbm, ⟨25, _⟩ => ⟨S8x2048x128, .f32⟩
  | .hbm, ⟨26, _⟩ => ⟨S8x2048x128, .f32⟩
  | .hbm, ⟨27, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Proof.Layer.lean ====
/-
  THE LAYER, as mathematics over the extended reals: what one graph convolution computes from the node features `x`, the
  adjacency words `a` (indexed by batch, source, destination), the weight `w` of the pooled neighbours and the weight `s` of the
  node itself. Both programs are shown to compute `layer`: the kernel in Block.lean and Array.lean, the reference in
  RefLayer.lean.
-/
module

public import Idealize.ShloMosaic.Lib.Pointwise

@[expose] public section

noncomputable section

namespace Cert.Layer

open Idealize.ShloMosaic

/-- Node features, one row of 128 per batch and node; also the shape of the result. -/
abbrev Feats := (⟨3, ![8, 2048, 128]⟩ : Shape).Idx → EReal
/-- Adjacency words: batch, source node, destination node. -/
abbrev Adj := (⟨3, ![8, 2048, 2048]⟩ : Shape).Idx → BitVec 32
/-- A weight matrix. -/
abbrev Weight := (⟨2, ![128, 128]⟩ : Shape).Idx → EReal

/-- The mask's value at an adjacency word: one for an edge, zero for none. -/
def mark (k : BitVec 32) : EReal := if k = 0#32 then 0 else 1

/-- How many sources have an edge to the destination `i` of batch `b`. -/
def neighbours (a : Adj) (b : Fin 8) (i : Fin 2048) : EReal := ∑ o : Fin 2048, mark (a (ix3 b o i))

/-- The sum of feature `d` over the sources that have an edge to the destination `i`. -/
def gathered (x : Feats) (a : Adj) (b : Fin 8) (i : Fin 2048) (d : Fin 128) : EReal :=
  ∑ o : Fin 2048, mark (a (ix3 b o i)) * x (ix3 b o d)

/-- The mean of feature `d` over those sources; zero where there are none, since the divisor is then one. -/
def pooled (x : Feats) (a : Adj) (b : Fin 8) (i : Fin 2048) (d : Fin 128) : EReal :=
  Ideal.div (gathered x a b i d) (max (neighbours a b i) 1)

/-- The node's own features times `s` plus the pooled features times `w`. -/
def updated (x : Feats) (a : Adj) (w s : Weight) (b : Fin 8) (i : Fin 2048) (e : Fin 128) : EReal :=
  (∑ d : Fin 128, x (ix3 b i d) * s (ix2 d e)) + ∑ d : Fin 128, pooled x a b i d * w (ix2 d e)

/-- The leaky rectifier; its slope is the rational that the float word of 0.1 denotes. -/
def leaky (u : EReal) : EReal := if 0 ≤ u then u else Ideal.ofBits .f32 0x3DCCCCCD#32 * u

/-- The whole layer. -/
def layer (x : Feats) (a : Adj) (w s : Weight) : Feats := fun j => leaky (updated x a w s (j 0) (j 1) (j 2))

/-- The layer at an index given by its coordinates. -/
theorem layer_ix (x : Feats) (a : Adj) (w s : Weight) (b : Fin 8) (i : Fin 2048) (e : Fin 128) :
    layer x a w s (ix3 b i e) = leaky (updated x a w s b i e) := rfl

end Cert.Layer

end
-- ==== Proof.Words.lean ====
/-
  ADJACENCY WORDS as numbers. Of a word that is 0 or 1 the signed conversion to a float is the mask's value (`sitofp_bit`); of any
  word, the conversion of the bit "the word is not zero" is (`uitofp_ne`). A sum of fewer than 2³¹ such words in 32-bit arithmetic
  does not wrap, so that its signed conversion is the sum of the masks' values (`sitofp_count`).
-/
module

public import proofs.«01_k».proof.Proof.Layer

@[expose] public section

noncomputable section

namespace Cert.Layer

open Idealize.ShloMosaic

/-- The word is 0 or 1. -/
def IsBit (k : BitVec 32) : Prop := k = 0#32 ∨ k = 1#32

/-- A word between 0 and 1 in the signed order is 0 or 1. -/
theorem isBit_of_range {k : BitVec 32} (h0 : (0#32).sle k = true) (h1 : k.slt 2#32 = true) : IsBit k := by
  have h0' : 0 ≤ k.toInt := by simpa [BitVec.sle] using h0
  have h1' : k.toInt < 2 := by simpa [BitVec.slt] using h1
  unfold IsBit
  rw [← BitVec.toInt_inj, ← BitVec.toInt_inj]
  have e0 : (0#32).toInt = 0 := by decide
  have e1 : (1#32).toInt = 1 := by decide
  omega

/-- The mask's value of a word that is 0 or 1 is the word's own value. -/
theorem mark_bit {k : BitVec 32} (h : IsBit k) : mark k = ((k.toNat : ℕ) : EReal) := by
  rcases h with rfl | rfl
  · simp [mark]
  · simp [mark]

/-- A word below 2³¹ converts to its own value. -/
theorem sitofp_small (φ : FTy) {k : BitVec 32} (h : k.toNat < 2 ^ 31) :
    FloatOps.sitofp (F := Ideal) φ k = ((k.toNat : ℕ) : EReal) := by
  show ((k.toInt : ℝ) : EReal) = _
  rw [BitVec.toInt_eq_toNat_of_lt (by omega)]
  simp

/-- A word that is 0 or 1 converts to the mask's value. -/
theorem sitofp_bit (φ : FTy) {k : BitVec 32} (h : IsBit k) : FloatOps.sitofp (F := Ideal) φ k = mark k := by
  rw [mark_bit h]
  exact sitofp_small φ (by rcases h with rfl | rfl <;> decide)

/-- The bit "the word is not zero" converts to the mask's value, whatever the word. -/
theorem uitofp_ne (φ : FTy) (k : BitVec 32) :
    FloatOps.uitofp (F := Ideal) φ (IntOp.cmpi .ne k 0#32) = mark k := by
  show (((IntOp.cmpi .ne k 0#32).toNat : ℝ) : EReal) = _
  by_cases h : k = 0#32
  · subst h; simp [mark, IntOp.cmpi]
  · simp [mark, IntOp.cmpi, h]

/-- A 32-bit sum of fewer than 2³² words that are 0 or 1 is the sum of their values, and that is at most their number. -/
theorem toNat_fold {ι : Type} (k : ι → BitVec 32) (h : ∀ o, IsBit (k o)) (S : Finset ι) (hS : S.card < 2 ^ 32) :
    (Finset.fold IntOp.addi 0#32 k S).toNat = ∑ o ∈ S, (k o).toNat ∧ ∑ o ∈ S, (k o).toNat ≤ S.card := by
  induction S using Finset.cons_induction with
  | empty => simp
  | cons a S ha ih =>
    rw [Finset.card_cons] at hS
    obtain ⟨e, le⟩ := ih (by omega)
    have ka : (k a).toNat ≤ 1 := by rcases h a with hk | hk <;> rw [hk] <;> decide
    rw [Finset.fold_cons, Finset.sum_cons, Finset.card_cons]
    refine ⟨?_, by omega⟩
    show (k a + Finset.fold IntOp.addi 0#32 k S).toNat = _
    rw [BitVec.toNat_add, e, Nat.mod_eq_of_lt (by omega)]

/-- THE COUNT: the 32-bit sum of fewer than 2³¹ words that are 0 or 1 converts to the sum of the masks' values. -/
theorem sitofp_count (φ : FTy) {n : ℕ} (hn : n < 2 ^ 31) (k : Fin n → BitVec 32) (h : ∀ o, IsBit (k o)) :
    FloatOps.sitofp (F := Ideal) φ (Finset.fold IntOp.addi 0#32 k Finset.univ) = ∑ o, mark (k o) := by
  have hc : (Finset.univ : Finset (Fin n)).card = n := by simp
  obtain ⟨e, le⟩ := toNat_fold k h Finset.univ (by omega)
  rw [sitofp_small φ (by omega), e, Nat.cast_sum]
  exact Finset.sum_congr rfl fun o _ => (mark_bit (h o)).symm

end Cert.Layer

end
-- ==== Proof.Block.lean ====
/-
  ONE BLOCK of the kernel: what the body stores of one batch, from the blocks that it loads, is that batch's part of the layer.
-/
module

public import proofs.«01_k».proof.Proof.Words
public import proofs.«01_k».proof.Proof.Gen.KernelIdeal.Skeleton

@[expose] public section

set_option maxRecDepth 16384

noncomputable section

namespace Cert.KernelIdeal.Block

open Cert.KernelIdeal Cert.KernelIdeal.Gen Cert.Layer Idealize.ShloMosaic

/-- The body's stored value at destination `i` and output feature `e`, where the loaded blocks hold batch `b` of the features `x`
    and of the adjacency words `a` (each 0 or 1) and the two weights whole: the layer at `(b, i, e)`. The body marks an edge by the
    word itself and counts the edges in 32-bit integers; under the bound on the words both are the mask's. -/
theorem stored_apply (x : Feats) (a : Adj) (w s : Weight) (b : Fin 8) (ha : ∀ o i, IsBit (a (ix3 b o i)))
    (xb : Vec Ideal S1x2048x128 .f32) (ab : Vec Ideal S1x2048x2048 .i32) (sb wb : Vec Ideal S128x128 .f32)
    (hx : ∀ i d, xb (ix3 0 i d) = x (ix3 b i d)) (hab : ∀ o i, ab (ix3 0 o i) = a (ix3 b o i))
    (hs : ∀ d e, sb (ix2 d e) = s (ix2 d e)) (hw : ∀ d e, wb (ix2 d e) = w (ix2 d e))
    (i : Fin 2048) (e : Fin 128) :
    k0_pay1 xb ab sb wb (ix3 0 i e) = layer x a w s (ix3 b i e) := by
  have hm : ∀ o, FloatOps.sitofp (F := Ideal) FTy.bf16 (a (ix3 b o i)) = mark (a (ix3 b o i)) :=
    fun o => sitofp_bit _ (ha o i)
  have hc : FloatOps.sitofp (F := Ideal) FTy.f32 (Finset.fold IntOp.addi 0#32 (fun o => a (ix3 b o i)) Finset.univ)
      = neighbours a b i := sitofp_count _ (by decide) _ fun o => ha o i
  rw [layer_ix]
  pointwise [k0_pay1]
  simp only [hx, hab, hs, hw, hm, hc]
  rfl

end Cert.KernelIdeal.Block

end
-- ==== Proof.Array.lean ====
/-
  THE KERNEL'S ARRAY: each grid point stages one batch and writes one batch back, so that the result array ends as the layer of the
  arguments (`final_layer`, `run_layer`).
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Array

open Cert.KernelIdeal Cert.KernelIdeal.Gen Cert.Layer Idealize.ShloMosaic Idealize.ShloMosaic.TcCoe Idealize.SL.Sem

variable (m : (ℓ : Loc nD τ sig) → Buf (Elt Ideal) ℓ) (ρ : Dev nD → PrngReg)

/-- The batch that grid point `t` works on. -/
def batch (t : Fin grid0.N) : Fin 8 := ⟨(grid0.coords t 0).val, (grid0.coords t 0).isLt⟩

/-- Which block each window is on at point `t`: batch `t` of the adjacency words, of the features and of the result, and the whole
    of each weight. -/
theorem index_eq : ∀ t : Fin grid0.N, win0_0.index t = ![(batch t).val, 0, 0] ∧ win0_1.index t = ![(batch t).val, 0, 0]
    ∧ win0_2.index t = ![0, 0] ∧ win0_3.index t = ![0, 0] ∧ win0_4.index t = ![(batch t).val, 0, 0] := by
  decide +kernel

/-- The staged features at point `t` are the batch's. -/
theorem feats_blk (c : Dev nD) (t : Fin grid0.N) (i : Fin 2048) (d : Fin 128) :
    iblk m c 1 t (ix3 0 i d) = m ((c : Thread nD τ).loc main_arg0) (ix3 (batch t) i d) := by
  blk_ext [iblk, V, index_eq t]

/-- The staged adjacency words at point `t` are the batch's. -/
theorem adj_blk (c : Dev nD) (t : Fin grid0.N) (o i : Fin 2048) :
    iblk m c 0 t (ix3 0 o i) = m ((c : Thread nD τ).loc main_arg1) (ix3 (batch t) o i) := by
  blk_ext [iblk, V, index_eq t]

/-- The staged weight of the pooled features is the whole weight, at every point. -/
theorem w_blk (c : Dev nD) (t : Fin grid0.N) (d e : Fin 128) :
    iblk m c 2 t (ix2 d e) = m ((c : Thread nD τ).loc main_arg2) (ix2 d e) := by
  blk_ext [iblk, V, index_eq t]

/-- The staged weight of the node's own features is the whole weight, at every point. -/
theorem s_blk (c : Dev nD) (t : Fin grid0.N) (d e : Fin 128) :
    iblk m c 3 t (ix2 d e) = m ((c : Thread nD τ).loc main_arg3) (ix2 d e) := by
  blk_ext [iblk, V, index_eq t]

/-- The result's block at point `t` lies at the batch. -/
theorem out_emb (t : Fin grid0.N) (y0 : Fin 1) (i : Fin 2048) (e : Fin 128) :
    ((View.whole main_v0).slice (win0_4.rect t)).emb (ix3 y0 i e) = ix3 (batch t) i e := by
  blk_ext [index_eq t]

/-- The result array ends as the layer of the arguments, if every adjacency word is 0 or 1: the eight blocks tile the array, and each
    holds its batch of the layer. -/
theorem final_layer (c : Dev nD) (ha : ∀ j : S8x2048x2048.Idx, IsBit (m ((c : Thread nD τ).loc main_arg1) j)) :
    (dats m 0 c).arrAt 4 cfg0.N
      = layer (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  rw [out_emb t y0 y1 y2]
  obtain rfl : y0 = 0 := Subsingleton.elim _ _
  exact Block.stored_apply _ _ _ _ (batch t) (fun o i => ha _) _ _ _ _ (feats_blk m c t) (adj_blk m c t)
    (s_blk m c t) (w_blk m c t) y1 y2

/-- From any memory whose adjacency words are 0 or 1: the kernel ends with the layer of its arguments, and with its arguments
    unchanged. -/
theorem run_layer (ha : ∀ (c : Dev nD) (j : S8x2048x2048.Idx), IsBit (m ((c : Thread nD τ).loc main_arg1) j)) :
    θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_layer m c (ha c)), (h c).2⟩) (Value.run_blocks m ρ)

end Cert.KernelIdeal.Array

end
-- ==== Proof.RefLayer.lean ====
/-
  THE REFERENCE: the array that the host program ends with is the layer of its arguments.
-/
module

public import proofs.«01_k».proof.Proof.Words
public import proofs.«01_k».proof.Proof.Gen.ReferenceIdeal.Run

@[expose] public section

set_option maxRecDepth 16384

noncomputable section

namespace Cert.ReferenceIdeal.RefLayer

open Cert.ReferenceIdeal Cert.ReferenceIdeal.Gen Cert.Layer Idealize.ShloMosaic Idealize.ShloMosaic.TcCoe Idealize.SL.Sem

/-- From any memory, whatever the adjacency words: the reference ends with the layer of its arguments, and with its arguments
    unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  clear h
  funext j
  idx_vars j
  rw [layer_ix]
  pointwise
  simp only [uitofp_ne]
  rfl

end Cert.ReferenceIdeal.RefLayer

end
-- ==== Proof.lean ====
/-
  The certificate of a graph convolution layer: the mean of each node's neighbours, two products with weights, a leaky rectifier.
  The kernel works on one batch per grid point; the reference is plain host code over the whole arrays.

  The modules: Layer.lean (the layer as mathematics), Words.lean (adjacency words as numbers), Block.lean (what the kernel's body
  stores of one batch), Array.lean (the kernel's result array), RefLayer.lean (the reference's). Here the claims are assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_or_one
public import proofs.«01_k».proof.Proof.Gen.KernelIdeal.Value
public import proofs.«01_k».proof.Proof.Gen.ReferenceIdeal.Run
public import proofs.«01_k».proof.Proof.Array
public import proofs.«01_k».proof.Proof.RefLayer
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Layer

/-- THE PRECONDITION READ: where `zero_or_one` is all ones, every adjacency word is 0 or 1. -/
theorem isBit_of_pre (x : FVec Ideal Pre_zero_or_one.S8x2048x128 .f32) (a : IVec Pre_zero_or_one.S8x2048x2048 32)
    (w s : FVec Ideal Pre_zero_or_one.S128x128 .f32) (h : Pre_zero_or_one.fn x a w s = fun _ => 1#1)
    (j : Pre_zero_or_one.S8x2048x2048.Idx) : IsBit (a j) := by
  have hj : IntOp.andi (IntOp.cmpi .sge (a j) 0#32) (IntOp.cmpi .slt (a j) 2#32) = 1#1 := congrFun h j
  generalize a j = k at hj
  have bits : ∀ p q : Bool, IntOp.andi (BitVec.ofBool p) (BitVec.ofBool q) = 1#1 → p = true ∧ q = true := by decide
  obtain ⟨h0, h1⟩ := bits _ _ hj
  exact isBit_of_range h0 h1

/-- The reference's frame: it terminates, keeps its arguments, and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.RefLayer.run_layer m ρ)

/-- Over the extended reals, where every adjacency word is 0 or 1, the kernel and the reference end with the same array: both with
    the layer of their arguments. -/
theorem algebraic : Cert.algebraic_KernelIdeal_ReferenceIdeal_pre_zero_or_one := by
  intro m ρ m' ρ' hpre hagree
  refine ⟨_, Cert.KernelIdeal.Array.run_layer m ρ fun c => isBit_of_pre _ _ _ _ (hpre c), ?_⟩
  refine (θ_run Cert.ReferenceIdeal.defs _ _).mono (fun _ h c => ⟨(h c).1.trans ?_, (h c).2⟩)
    (Cert.ReferenceIdeal.RefLayer.run_layer m' ρ')
  obtain ⟨e0, e1, e2, e3⟩ := hagree c
  rw [e0, e1, e2, e3]

/-- The whole claim: the three frames, that the ideal program is the kernel's own text, and the equation of the results. -/
theorem claim : Cert.Claim :=
  ⟨Cert.Kernel.Gen.facts, Cert.KernelIdeal.Gen.facts, Cert.ReferenceIdeal.Gen.facts, Cert.Pre_zero_or_one.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
